-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied_top [hPre_untied_top : Cert.Pre_untied_top.Facts] (m : (ℓ : Loc Cert.KernelIdeal.nD Cert.KernelIdeal.τ Cert.KernelIdeal.sig) → Buf (Elt Ideal) ℓ) : Prop :=
  ∀ c : Dev Cert.KernelIdeal.nD,
    (Cert.Pre_untied_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied_top [hPre_untied_top : Cert.Pre_untied_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_untied_top [hKernelIdeal : Cert.KernelIdeal.Facts] [hPre_untied_top : Cert.Pre_untied_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_untied_top [hReferenceIdeal : Cert.ReferenceIdeal.Facts] [hPre_untied_top : Cert.Pre_untied_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_untied_top [hKernelIdeal : Cert.KernelIdeal.Facts] [hReferenceIdeal : Cert.ReferenceIdeal.Facts] [hPre_untied_top : Cert.Pre_untied_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_untied_top : Cert.Pre_untied_top.Facts),
    quiescent_Kernel (hKernel := hKernel)
    ∧ quiescent_KernelIdeal (hKernelIdeal := hKernelIdeal)
    ∧ quiescent_KernelIdeal_pre_untied_top (hKernelIdeal := hKernelIdeal) (hPre_untied_top := hPre_untied_top)
    ∧ quiescent_ReferenceIdeal (hReferenceIdeal := hReferenceIdeal)
    ∧ quiescent_ReferenceIdeal_pre_untied_top (hReferenceIdeal := hReferenceIdeal) (hPre_untied_top := hPre_untied_top)
    ∧ preserves_Kernel_KernelIdeal
    ∧ algebraic_KernelIdeal_ReferenceIdeal_pre_untied_top (hKernelIdeal := hKernelIdeal) (hReferenceIdeal := hReferenceIdeal) (hPre_untied_top := hPre_untied_top)
-- ==== Pre_untied_top.lean ====
abbrev S32768x768 : Shape := ⟨2, ![32768, 768]⟩
abbrev S768x384 : Shape := ⟨2, ![768, 384]⟩
abbrev S384 : Shape := ⟨1, ![384]⟩
abbrev S384x64 : Shape := ⟨2, ![384, 64]⟩
abbrev S64 : Shape := ⟨1, ![64]⟩
abbrev S32768x384 : Shape := ⟨2, ![32768, 384]⟩
abbrev S1x384 : Shape := ⟨2, ![1, 384]⟩
abbrev S_ : Shape := ⟨0, ![]⟩
abbrev S32768x64 : Shape := ⟨2, ![32768, 64]⟩
abbrev S1x64 : Shape := ⟨2, ![1, 64]⟩
abbrev S32768x9 : Shape := ⟨2, ![32768, 9]⟩
abbrev S32768x8 : Shape := ⟨2, ![32768, 8]⟩

class Facts : Prop where
  bcast_S384_S1x384_1 : S384.BroadcastsInDim S1x384 (![1] : Fin 1 → Fin S1x384.rank)
  bcast_S1x384_S32768x384_0_1 : S1x384.BroadcastsInDim S32768x384 (![0, 1] : Fin 2 → Fin S32768x384.rank)
  bcast_S_S32768x384 : S_.BroadcastsInDim S32768x384 (![] : Fin 0 → Fin S32768x384.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  sliceFits_S32768x64_S32768x9 : S32768x64.Slices (fun _ => 0) S32768x9
  slices_S32768x9_S32768x8_0_0 : S32768x9.Slices ![0, 0] S32768x8
  slices_S32768x9_S32768x8_0_1 : S32768x9.Slices ![0, 1] S32768x8
  dot_S32768x768_S768x384_S32768x384_1_0_0_1_n_n_wf : DotDims.WF S32768x768 S768x384 S32768x384 [1] [0] [0] [1] [] []
  dot_S32768x384_S384x64_S32768x64_1_0_0_1_n_n_wf : DotDims.WF S32768x384 S384x64 S32768x64 [1] [0] [0] [1] [] []

variable [Facts]

def dot_S32768x768_S768x384_S32768x384_1_0_0_1_n_n : DotDims S32768x768 S768x384 S32768x384 where
  lhsContracting := [1]
  rhsContracting := [0]
  lhsNonContracting := [0]
  rhsNonContracting := [1]
  lhsBatch := []
  rhsBatch := []
  wf := dot_S32768x768_S768x384_S32768x384_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf
def fn_relu {F : FTy → Type} [FloatOps F] (arg0 : FVec F S32768x384 .f32) : FVec F S32768x384 .f32 :=
  let cst : FVec F S_ .f32 := constant S_ .f32 0x00000000#32
  let v0 : FVec F S32768x384 .f32 := broadcastInDim S32768x384 ![] bcast_S_S32768x384 cst
  let v1 : FVec F S32768x384 .f32 := maximumf arg0 v0
  v1

def fn {F : FTy → Type} [FloatOps F] (main_arg0 : FVec F S32768x768 .f32) (main_arg1 : FVec F S768x384 .f32) (main_arg2 : FVec F S384 .f32) (main_arg3 : FVec F S384x64 .f32) (main_arg4 : FVec F S64 .f32) : IVec S32768x8 1 :=
  let main_v0 : FVec F S32768x384 .f32 := (fun l r => Host.dotGeneral dot_S32768x768_S768x384_S32768x384_1_0_0_1_n_n none l r) main_arg0 main_arg1
  let main_v1 : FVec F S1x384 .f32 := broadcastInDim S1x384 ![1] bcast_S384_S1x384_1 main_arg2
  let main_v2 : FVec F S32768x384 .f32 := broadcastInDim S32768x384 ![0, 1] bcast_S1x384_S32768x384_0_1 main_v1
  let main_v3 : FVec F S32768x384 .f32 := addf main_v0 main_v2
  let main_v4 : FVec F S32768x384 .f32 := fn_relu (F := F) main_v3
  let main_v5 : FVec F S32768x64 .f32 := (fun l r => Host.dotGeneral dot_S32768x384_S384x64_S32768x64_1_0_0_1_n_n none l r) main_v4 main_arg3
  let main_v6 : FVec F S1x64 .f32 := broadcastInDim S1x64 ![1] bcast_S64_S1x64_1 main_arg4
  let main_v7 : FVec F S32768x64 .f32 := broadcastInDim S32768x64 ![0, 1] bcast_S1x64_S32768x64_0_1 main_v6
  let main_v8 : FVec F S32768x64 .f32 := addf main_v5 main_v7
  let main_v9 : FVec F S32768x64 .f32 := Host.negf main_v8
  let main_v10 : FVec F S32768x64 .f32 := Host.exp main_v9
  let main_cst : FVec F S_ .f32 := constant S_ .f32 0x3F800000#32
  let main_v11 : FVec F S32768x64 .f32 := broadcastInDim S32768x64 ![] bcast_S_S32768x64 main_cst
  let main_v12 : FVec F S32768x64 .f32 := addf main_v11 main_v10
  let main_cst_0 : FVec F S_ .f32 := constant S_ .f32 0x3F800000#32
  let main_v13 : FVec F S32768x64 .f32 := broadcastInDim S32768x64 ![] bcast_S_S32768x64 main_cst_0
  let main_v14 : FVec F S32768x64 .f32 := Host.divf main_v13 main_v12
  let main_values : FVec F S32768x9 .f32 := (fun x => (Host.topK S32768x9 1 (FloatOps.cmpfTotal .gt) x sliceFits_S32768x64_S32768x9).1) main_v14
  let main_indices : IVec S32768x9 32 := (fun x => (Host.topK S32768x9 1 (FloatOps.cmpfTotal .gt) x sliceFits_S32768x64_S32768x9).2) main_v14
  let main_v15 : FVec F S32768x8 .f32 := (extractStridedSlice S32768x8 ![0, 0] · slices_S32768x9_S32768x8_0_0) main_values
  let main_v16 : FVec F S32768x8 .f32 := (extractStridedSlice S32768x8 ![0, 1] · slices_S32768x9_S32768x8_0_1) main_values
  let main_v17 : IVec S32768x8 1 := cmpf .ogt main_v15 main_v16
  main_v17
-- ==== Kernel.lean ====
abbrev S32768x768 : Shape := ⟨2, ![32768, 768]⟩
abbrev S768x384 : Shape := ⟨2, ![768, 384]⟩
abbrev S384 : Shape := ⟨1, ![384]⟩
abbrev S384x64 : Shape := ⟨2, ![384, 64]⟩
abbrev S64 : Shape := ⟨1, ![64]⟩
abbrev S1x384 : Shape := ⟨2, ![1, 384]⟩
abbrev S1x64 : Shape := ⟨2, ![1, 64]⟩
abbrev S32768x64 : Shape := ⟨2, ![32768, 64]⟩
abbrev S2048x768 : Shape := ⟨2, ![2048, 768]⟩
abbrev S2048x64 : Shape := ⟨2, ![2048, 64]⟩
abbrev S2048 : Shape := ⟨1, ![2048]⟩
abbrev S2048x1 : Shape := ⟨2, ![2048, 1]⟩
abbrev S2048x384 : Shape := ⟨2, ![2048, 384]⟩

abbrev nBuf : Space → Nat
  | .hbm => 8
  | .vmem => 9
  | .smem => 0
  | _ => 0

abbrev bufTy : (tb : Table) → Fin (tcTables nBuf tb) → BufTy
  | .hbm, ⟨0, _⟩ => ⟨S32768x768, .f32⟩
  | .hbm, ⟨1, _⟩ => ⟨S768x384, .f32⟩
  | .hbm, ⟨2, _⟩ => ⟨S384, .f32⟩
  | .hbm, ⟨3, _⟩ => ⟨S384x64, .f32⟩
  | .hbm, ⟨4, _⟩ => ⟨S64, .f32⟩
  | .hbm, ⟨5, _⟩ => ⟨S1x384, .f32⟩
  | .hbm, ⟨6, _⟩ => ⟨S1x64, .f32⟩
  | .hbm, ⟨7, _⟩ => ⟨S32768x64, .f32⟩
  | .local _ .vmem, ⟨0, _⟩ => ⟨S2048x768, .f32⟩
  | .local _ .vmem, ⟨1, _⟩ => ⟨S2048x768, .f32⟩
  | .local _ .vmem, ⟨2, _⟩ => ⟨S768x384, .f32⟩
  | .local _ .vmem, ⟨3, _⟩ => ⟨S1x384, .f32⟩
  | .local _ .vmem, ⟨4, _⟩ => ⟨S384x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x768 : Shape := ⟨2, ![32768, 768]⟩
abbrev S768x384 : Shape := ⟨2, ![768, 384]⟩
abbrev S384 : Shape := ⟨1, ![384]⟩
abbrev S384x64 : Shape := ⟨2, ![384, 64]⟩
abbrev S64 : Shape := ⟨1, ![64]⟩
abbrev S32768x384 : Shape := ⟨2, ![32768, 384]⟩
abbrev S1x384 : Shape := ⟨2, ![1, 384]⟩
abbrev S_ : Shape := ⟨0, ![]⟩
abbrev S32768x64 : Shape := ⟨2, ![32768, 64]⟩
abbrev S1x64 : Shape := ⟨2, ![1, 64]⟩
abbrev S32768x8 : Shape := ⟨2, ![32768, 8]⟩
abbrev S32768 : Shape := ⟨1, ![32768]⟩
abbrev S32768x1 : Shape := ⟨2, ![32768, 1]⟩
abbrev S32768x8x1 : Shape := ⟨3, ![32768, 8, 1]⟩
abbrev S32768x8x2 : Shape := ⟨3, ![32768, 8, 2]⟩

abbrev nBuf : Space → Nat
  | .hbm => 52
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x384, .f32⟩
  | .hbm, ⟨2, _⟩ => ⟨S384, .f32⟩
  | .hbm, ⟨3, _⟩ => ⟨S384x64, .f32⟩
  | .hbm, ⟨4, _⟩ => ⟨S64, .f32⟩
  | .hbm, ⟨5, _⟩ => ⟨S32768x384, .f32⟩
  | .hbm, ⟨6, _⟩ => ⟨S1x384, .f32⟩
  | .hbm, ⟨7, _⟩ => ⟨S32768x384, .f32⟩
  | .hbm, ⟨8, _⟩ => ⟨S32768x384, .f32⟩
  | .hbm, ⟨9, _⟩ => ⟨S_, .f32⟩
  | .hbm, ⟨10, _⟩ => ⟨S32768x384, .f32⟩
  | .hbm, ⟨11, _⟩ => ⟨S32768x384, .f32⟩
  | .hbm, ⟨12, _⟩ => ⟨S32768x64, .f32⟩
  | .hbm, ⟨13, _⟩ => ⟨S1x64, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S32768x64, .f32⟩
  | .hbm, ⟨18, _⟩ => ⟨S_, .f32⟩
  | .hbm, ⟨19, _⟩ => ⟨S32768x64, .f32⟩
  | .hbm, ⟨20, _⟩ => ⟨S32768x64, .f32⟩
  | .hbm, ⟨21, _⟩ => ⟨S_, .f32⟩
  | .hbm, ⟨22, _⟩ => ⟨S32768x64, .f32⟩
  | .hbm, ⟨23, _⟩ => ⟨S32768x64, .f32⟩
  | .hbm, ⟨24, _⟩ => ⟨S32768x8, .f32⟩
  | .hbm, ⟨25, _⟩ => ⟨S32768x8, .i32⟩
  | .hbm, ⟨26, _⟩ => ⟨S32768, .i32⟩
  | .hbm, ⟨27, _⟩ => ⟨S32768x1, .i32⟩
  | .hbm, ⟨28, _⟩ => ⟨S_, .f32⟩
  | .hbm, ⟨29, _⟩ => ⟨S32768x64, .f32⟩
  | .hbm, ⟨30, _⟩ => ⟨S_, .i32⟩
  | .hbm, ⟨31, _⟩ => ⟨S32768x1, .i32⟩
  | .hbm, ⟨32, _⟩ => ⟨S32768x1, .i1⟩
  | .hbm, ⟨33, _⟩ => ⟨S_, .i32⟩
  | .hbm, ⟨34, _⟩ => ⟨S32768x1, .i32⟩
  | .hbm, ⟨35, _⟩ => ⟨S32768x1, .i32⟩
  | .hbm, ⟨36, _⟩ => ⟨S32768x1, .i32⟩
  | .hbm, ⟨37, _⟩ => ⟨S_, .i32⟩
  | .hbm, ⟨38, _⟩ => ⟨S32768x8, .i32⟩
  | .hbm, ⟨39, _⟩ => ⟨S32768x8, .i1⟩
  | .hbm, ⟨40, _⟩ => ⟨S_, .i32⟩
  | .hbm, ⟨41, _⟩ => ⟨S32768x8, .i32⟩
  | .hbm, ⟨42, _⟩ => ⟨S32768x8, .i32⟩
  | .hbm, ⟨43, _⟩ => ⟨S32768x8, .i32⟩
  | .hbm, ⟨44, _⟩ => ⟨S32768x8, .i32⟩
  | .hbm, ⟨45, _⟩ => ⟨S32768x8x1, .i32⟩
  | .hbm, ⟨46, _⟩ => ⟨S32768x8x1, .i32⟩
  | .hbm, ⟨47, _⟩ => ⟨S32768x8x2, .i32⟩
  | .hbm, ⟨48, _⟩ => ⟨S_, .f32⟩
  | .hbm, ⟨49, _⟩ => ⟨S32768x8, .f32⟩
  | .hbm, ⟨50, _⟩ => ⟨S32768x64, .f32⟩
  | .hbm, ⟨51, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Body.lean ====
/-
  What one grid point of the kernel does. The body is called with five input blocks, an output block and the scratch.
  It reads the scratch, writes the eight-round selection of what it read to the output block, and then fills the scratch
  with the scores of the input block. Nothing is read of the output block, so it may hold anything on entry.
-/
module

public import proofs.«01_k».proof.Proof.Gen.KernelIdeal.Skeleton
public import proofs.«01_k».proof.Proof.Gen.KernelIdeal.Frame
public import Idealize.ShloMosaic.Lib.Claim
public import Idealize.ShloMosaic.Lib.Pipeline.Value

@[expose] public section

set_option maxRecDepth 16384

noncomputable section

namespace Cert.KernelIdeal.Top

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The block written to the output when the scratch holds the scores `s`: eight rounds of the selection. -/
def selected (s : Vec F S2048x64 .f32) : Vec F S2048x64 .f32 := k0_pay1 s (k0_pay3 s)

/-- The two offsets of a whole-block access are zero. -/
theorem offsets_zero : (![0, 0] : Fin 2 → Nat) = fun _ => 0 := funext fun a => by fin_cases a <;> rfl

/-- One store over a whole block leaves what was stored, whatever the block held. -/
theorem read_one_store {s : Shape} {e : EltTy} {sp : Space} (v : View sig .tc sp s e) (f : v.ty.Contents (Elt F))
    {off : Fin s.rank → Nat} (h : off = fun _ => 0) (inb : ∀ a, off a + s.size a ≤ s.size a) (w : s.Idx → Elt F e) :
    v.read (Elt F) (v.writes (Elt F) f [⟨Rect.unit off s.size inb, w⟩]) = w := by
  rw [View.read_writes_eq_canon _ _ _ (fun y => ⟨_, List.mem_singleton_self _, View.mem_set_unit_zero h inb y⟩),
    View.canon_unit_zero h]

-- the run's proof term is long
set_option maxHeartbeats 1000000 in
/-- The body on whole blocks: with the scratch at `s` it leaves `selected s` in the output block and the scores of the
    input blocks in the scratch, and the inputs as they were. -/
theorem body_run (c : Dev nD) (i : grid0.Coords) (arg1 : Memref sig .tc .vmem S2048x768 .f32) (harg1 : arg1.IsWhole) (arg2 : Memref sig .tc .vmem S768x384 .f32) (harg2 : arg2.IsWhole) (arg3 : Memref sig .tc .vmem S1x384 .f32) (harg3 : arg3.IsWhole) (arg4 : Memref sig .tc .vmem S384x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (x0 : Vec F S2048x768 .f32) (x1 : Vec F S768x384 .f32) (x2 : Vec F S1x384 .f32) (x3 : Vec F S384x64 .f32) (x4 : Vec F S1x64 .f32) (s : Vec F S2048x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (selected s) ∗ owns (c : Thread nD τ) arg7 fullShare (k0_pay2 x0 x1 x2 x3 x4)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [read_one_store _ _ offsets_zero]
    sl_unfold_words
    simp only [View.readAt_eq_ld, harg7.read_unread, View.ld_unit_zero (S := S2048x64) offsets_zero]
    rfl
  iexists _; isplitr; swap; · iexact HS
  ipureintro
  rw [read_one_store _ _ offsets_zero]
  sl_unfold_words
  simp only [View.readAt_eq_ld, harg1.read_unread, harg2.read_unread, harg3.read_unread, harg4.read_unread, harg5.read_unread,
    View.ld_unit_zero (S := S2048x768) offsets_zero, View.ld_unit_zero (S := S768x384) offsets_zero, View.ld_unit_zero (S := S1x384) offsets_zero,
    View.ld_unit_zero (S := S384x64) offsets_zero, View.ld_unit_zero (S := S1x64) offsets_zero]

end Cert.KernelIdeal.Top

end
-- ==== Proof.Run.lean ====
/-
  The run of the kernel: what the launch leaves in the output array. The grid has seventeen points. The scratch carries
  the scores of one block from each point to the next, so point `t + 1` writes the selection over the scores of block `t`.
  What the first point writes is the selection over whatever the scratch holds on entry, and nothing is said of it.
-/
module

public import proofs.«01_k».proof.Proof.Body
public import Idealize.ShloMosaic.Lib.Pipeline.DatRel
public import Idealize.ShloMosaic.Lib.Pipeline.ArrRel
public import Idealize.ShloMosaic.Lib.ValueIdxCore

@[expose] public section

set_option maxRecDepth 16384

noncomputable section

namespace Cert.KernelIdeal.Top

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)
open Idealize.ShloMosaic.Pipeline (Dat RDat Cfg Window BodyObligationRel)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scores that the body computes at point `t` from the blocks it is given there. -/
def blockScores (c : Dev nD) (t : Fin cfg0.N) : Vec F S2048x64 .f32 :=
  k0_pay2 (iblk m c 0 t) (iblk m c 1 t) (iblk m c 2 t) (iblk m c 3 t) (iblk m c 4 t)

/-- The scratch operand, a whole buffer of the kernel's own. -/
abbrev scratch : Memref sig .tc .vmem S2048x64 .f32 := Memref.whole cc0_scratch0

/-- Between points: before point `n` the scratch holds the scores of point `n - 1`; before the first, anything. -/
def carried (c : Dev nD) (n : ℕ) : sProp 𝕄 :=
  iprop(∃ s, ⌜∀ u : Fin cfg0.N, u.val + 1 = n → s = blockScores m c u⌝ ∗ owns (c : Thread nD τ) scratch fullShare s ∗ (∃ r, prngReg c r))

/-- The one output window is held to a predicate; the inputs are named. -/
def marked : Fin 6 → Bool := fun w => w.val == 5

/-- What the body leaves in the output block at point `t`: from the second point on, the selection over the scores of the
    point before. -/
def leaves (c : Dev nD) (w : Fin cfg0.W) (t : Fin cfg0.N) (X : (cfg0.win w).block.Idx → Elt F (cfg0.win w).elt) : Prop :=
  match w with
  | ⟨5, _⟩ => ∀ u : Fin cfg0.N, u.val + 1 = t.val → X = selected (blockScores m c u)
  | _ => True

/-- The proof data: the arrays as the region finds them, every input block unchanged by the body, the scratch carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := carried m c t.val
  q _ := fullShare
  owed _ := 0

/-- The proof data start from the arrays as the region finds them. -/
theorem data_arrays (c : Dev nD) (w : Fin cfg0.W) : (dats m 0 c).A w = V m c (Pipeline.arrRef spec0 w) := by
  dsimp only [dats]

/-- The body leaves the block of input window 0 as it was. -/
theorem after_0 (c : Dev nD) (t : Fin cfg0.N) : (dats m 0 c).after 0 t = iblk m c 0 t := by dsimp only [dats]
/-- The body leaves the block of input window 1 as it was. -/
theorem after_1 (c : Dev nD) (t : Fin cfg0.N) : (dats m 0 c).after 1 t = iblk m c 1 t := by dsimp only [dats]
/-- The body leaves the block of input window 2 as it was. -/
theorem after_2 (c : Dev nD) (t : Fin cfg0.N) : (dats m 0 c).after 2 t = iblk m c 2 t := by dsimp only [dats]
/-- The body leaves the block of input window 3 as it was. -/
theorem after_3 (c : Dev nD) (t : Fin cfg0.N) : (dats m 0 c).after 3 t = iblk m c 3 t := by dsimp only [dats]
/-- The body leaves the block of input window 4 as it was. -/
theorem after_4 (c : Dev nD) (t : Fin cfg0.N) : (dats m 0 c).after 4 t = iblk m c 4 t := by dsimp only [dats]

/-- The body finds in input window 0 its block of the array. -/
theorem before_0 (c : Dev nD) (t : Fin cfg0.N) (d) : (dats m 0 c).before 0 t d = iblk m c 0 t :=
  before0_0_of m (dats m 0 c) (data_arrays m c 0) (after_0 m c) t d
/-- The body finds in input window 1 its block of the array. -/
theorem before_1 (c : Dev nD) (t : Fin cfg0.N) (d) : (dats m 0 c).before 1 t d = iblk m c 1 t :=
  before0_1_of m (dats m 0 c) (data_arrays m c 1) (after_1 m c) t d
/-- The body finds in input window 2 its block of the array. -/
theorem before_2 (c : Dev nD) (t : Fin cfg0.N) (d) : (dats m 0 c).before 2 t d = iblk m c 2 t :=
  before0_2_of m (dats m 0 c) (data_arrays m c 2) (after_2 m c) t d
/-- The body finds in input window 3 its block of the array. -/
theorem before_3 (c : Dev nD) (t : Fin cfg0.N) (d) : (dats m 0 c).before 3 t d = iblk m c 3 t :=
  before0_3_of m (dats m 0 c) (data_arrays m c 3) (after_3 m c) t d
/-- The body finds in input window 4 its block of the array. -/
theorem before_4 (c : Dev nD) (t : Fin cfg0.N) (d) : (dats m 0 c).before 4 t d = iblk m c 4 t :=
  before0_4_of m (dats m 0 c) (data_arrays m c 4) (after_4 m c) t d

/-! ## The body at a point -/

/-- What the body is given at point `t`, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel marked (leaves m c)).Finds 5 t Y⌝ ∗ owns (c : Thread nD τ) (st0_5 t) fullShare Y))

/-- What the body hands back at point `t`, window by window. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜leaves m c 5 t X⌝ ∗ owns (c : Thread nD τ) (st0_5 t) fullShare X))

/-- The body at any point: given the scores of the point before in the scratch, it leaves their selection in the output
    block and its own block's scores in the scratch. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4]
  rw [show (dats m 0 c).owesAt () t.succ = (dats m 0 c).owesAt () t.castSucc from rfl,
    after_0, after_1, after_2, after_3, after_4]
  rw [show (dats m 0 c).Φ t.castSucc = carried m c t.val from rfl, show (dats m 0 c).Φ t.succ = carried m c (t.val + 1) from rfl]
  unfold carried
  iintro ⟨⟨%s, %hs, HS, Hg⟩, Ho, ⟨%d0, H0⟩, ⟨%d1, H1⟩, ⟨%d2, H2⟩, ⟨%d3, H3⟩, ⟨%d4, H4⟩, ⟨%d5, -, H5⟩⟩
  iapply (body_run c (grid0.coords t) _ _ _ _ _ _ _ _ _ _ _ _ _ _ (iblk m c 0 t) (iblk m c 1 t) (iblk m c 2 t) (iblk m c 3 t) (iblk m c 4 t) s Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · iexists (blockScores m c t)
    isplitr
    · ipureintro
      intro u hu
      rw [show u = t from Fin.ext (by omega)]
    isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexists (selected s)
  isplitr
  · ipureintro
    intro u hu
    rw [hs u hu]
  iexact H5

/-- The body table's row at point `t` is the body at that point. -/
theorem body_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) :
    BodyObligationRel (dats (F := F) m 0 c) (defs₀ (F := F)) Variants.none () Set.univ marked (leaves m c) := fun t => by
  rw [bigSep_W0, bigSep_W0, body_row]
  exact triple_restated (body_at m c t) rfl .rfl fun _ => .rfl

/-! ## The launch -/

/-- On entry the scratch holds something, which is all that is asked before the first point. -/
theorem carried_start (c : Dev nD) : (Pipeline.ΦA spec0 c : sProp 𝕄) ⊢ carried m c 0 := by
  unfold Pipeline.ΦA carried; rw [scopedRest0_eq]; simp only [scratch, owns_whole]
  iintro ⟨⟨%f, H⟩, Hg⟩
  iexists f
  isplitr
  · ipureintro; intro u hu; omega
  isplitl [H]
  · iexact H
  iexact Hg

/-- After the last point the scratch is given back, its contents forgotten. -/
theorem carried_end (c : Dev nD) (n : ℕ) : carried m c n ⊢ (Pipeline.ΦA spec0 c : sProp 𝕄) := by
  unfold Pipeline.ΦA carried; rw [scopedRest0_eq]; simp only [scratch, owns_whole]
  iintro ⟨%s, -, H, Hg⟩
  isplitl [H]
  · iexists s
    iexact H
  iexact Hg

/-- The relational proof data of the run. -/
abbrev rdats (c : Dev nD) : RDat τ (Elt F) Unit ℕ (UR sig nD τ) ℕ cfg0 c := (dats m 0 c).toRRel marked (leaves m c)

set_option backward.isDefEq.respectTransparency.types false in
/-- The launch: every run ends with each window's array at what the proof data allow, every other buffer as the region
    found it, and every counter at zero. -/
theorem run_main : θ_run defs (onTc (τ := τ) (main (F := F))) (s₀ m ρ)
    (fun r => RDat.FramePost (cfgs 0) (rdats m) (V m) r ∧ r.2.sem = fun _ => 0) :=
  RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := data_arrays m)
    (hin := fun c => carried_start m c) (hout := fun c => carried_end m c _)

/-- No run changes an argument, and every counter ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(RDat.FramePost.arr_in h.1 c 0 rfl).trans ((data_arrays m c 0).trans (V_main_arg0 m c)),
      (RDat.FramePost.arr_in h.1 c 1 rfl).trans ((data_arrays m c 1).trans (V_main_arg1 m c)),
      ((h.1 c).2 main_arg2 (Pipeline.mem_restRefs_of main_arg2 (by decide) (by decide))).trans (V_main_arg2 m c),
      (RDat.FramePost.arr_in h.1 c 3 rfl).trans ((data_arrays m c 3).trans (V_main_arg3 m c)),
      ((h.1 c).2 main_arg4 (Pipeline.mem_restRefs_of main_arg4 (by decide) (by decide))).trans (V_main_arg4 m c)⟩, h.2⟩)
    (run_main m ρ)

/-! ## The output array -/

/-- The output block is written back at every point but the first. -/
theorem flush_pos : ∀ t : Fin cfg0.N, (cfg0.win 5).flush t = true → 1 ≤ t.val :=
  (by decide +kernel : ∀ t : Fin grid0.N, win0_5.flush t = true → 1 ≤ t.val)

/-- At point `t` the output's block is block `t - 1`. -/
theorem index_out : ∀ t : Fin cfg0.N, win0_5.index t = ![t.val - 1, 0] :=
  (by decide +kernel : ∀ t : Fin grid0.N, win0_5.index t = ![t.val - 1, 0])

/-- The grid has seventeen points. -/
theorem points : cfg0.N = 17 := N_0

/-- The row of the whole array at which row `r` of block `u` lies. -/
def rowAt (u : Fin cfg0.N) (hu : u.val < 16) (r : Fin 2048) : Fin 32768 := ⟨u.val * 2048 + r.val, by omega⟩

/-- Every run ends with the output array at `G`, if `G` restricted to each of the sixteen blocks is the selection over the
    scores of that block. -/
theorem run_result (G : (c : Dev nD) → S32768x64.Idx → F .f32)
    (hG : ∀ (c : Dev nD) (u : Fin cfg0.N) (hu : u.val < 16) (r : Fin 2048) (j : Fin 64),
      selected (blockScores m c u) (ix2 r j) = G c (ix2 (rowAt u hu r) j)) :
    θ_run defs (onTc (τ := τ) (main (F := F))) ⟨m, fun _ => 0, ρ⟩ (fun r => ∀ c : Dev nD,
      r.2.mem ((c.tc : Thread nD τ).loc main_v2) = G c) := by
  refine (θ_run defs _ _).mono (fun r h c => ?_) (run_main m ρ)
  obtain ⟨after, hL, hA⟩ := RDat.FramePost.exists_exact h.1 c
  refine (hA 5).trans ?_
  refine Dat.arrAt_eq_of_covers (cfg := cfg0) ((rdats m c).withAfter after) 5 (G c) (by decide +kernel) fun t hf y => ?_
  have hp := flush_pos t hf
  have hN : t.val < 17 := points ▸ t.isLt
  have hl : leaves m c 5 t (after 5 t) := Dat.toRRel_leaves _ rfl (hL 5 t hf)
  have he := hl ⟨t.val - 1, by rw [points]; omega⟩ (by show t.val - 1 + 1 = t.val; omega)
  blk_simp
  refine (congrFun he y).trans ?_
  have hu : t.val - 1 < 16 := by omega
  have := hG c ⟨t.val - 1, by rw [points]; omega⟩ hu (y 0) (y 1)
  rw [ValueIdx.eq_ix2 y]
  refine this.trans (congrArg (G c) ?_)
  blk_ext [index_out t, rowAt]

end Cert.KernelIdeal.Top

end
-- ==== Proof.Knockout.lean ====
/-
  Striking out the greatest entry of a row, eight times over. If the first nine entries in decreasing order are strictly
  decreasing, then each round strikes exactly the next one, so the entries struck after eight rounds are the eight greatest.
-/
module

public import Mathlib.Data.EReal.Basic
public import Mathlib.Data.Finset.Fold
public import Mathlib.Data.Fintype.Basic
public import Mathlib.Logic.Function.Iterate

@[expose] public section

noncomputable section

namespace Cert.Knockout

/-- The greatest entry of a row of sixty-four. -/
def rowMax (w : Fin 64 → EReal) : EReal := Finset.univ.fold max ⊥ w

/-- An entry that no other exceeds is the greatest. -/
theorem rowMax_eq (w : Fin 64 → EReal) (i : Fin 64) (h : ∀ j, w j ≤ w i) : rowMax w = w i :=
  le_antisymm ((Finset.fold_max_le _).2 ⟨bot_le, fun j _ => h j⟩) ((Finset.le_fold_max _).2 (Or.inr ⟨i, Finset.mem_univ i, le_rfl⟩))

/-- One round: every entry equal to the greatest is replaced by the mark `e`. -/
def strike (e : EReal) (w : Fin 64 → EReal) : Fin 64 → EReal := fun i => if w i = rowMax w then e else w i

/-- The order `p` lists the places of the row `v` from the greatest entry down, the first nine entries strictly
    decreasing. -/
structure Ranks (v : Fin 64 → EReal) (p : Fin 64 → Fin 64) : Prop where
  /-- Every place is listed. -/
  onto : Function.Surjective p
  /-- Later entries are no greater. -/
  descending : ∀ i j, i < j → v (p j) ≤ v (p i)
  /-- Each of the first eight entries exceeds the next. -/
  strict : ∀ i j : Fin 64, i.val < 8 → j.val = i.val + 1 → v (p j) < v (p i)

variable {v : Fin 64 → EReal} {p : Fin 64 → Fin 64} {e : EReal}

/-- An entry among the first eight exceeds every later one. -/
theorem Ranks.lt (h : Ranks v p) (i j : Fin 64) (hi : i.val < 8) (hij : i < j) : v (p j) < v (p i) := by
  have hs := h.strict i ⟨i.val + 1, by omega⟩ hi rfl
  rcases (show i.val + 1 ≤ j.val from hij).lt_or_eq with hlt | heq
  · exact (h.descending ⟨i.val + 1, by omega⟩ j hlt).trans_lt hs
  · rwa [show j = ⟨i.val + 1, by omega⟩ from Fin.ext heq.symm]

/-- After `k ≤ 8` rounds exactly the first `k` places listed bear the mark, which lies below every entry. -/
theorem Ranks.strike_iterate (h : Ranks v p) (he : ∀ i, e < v i) (k : ℕ) (hk : k ≤ 8) (j : Fin 64) :
    ((strike e)^[k] v) (p j) = if j.val < k then e else v (p j) := by
  induction k generalizing j with
  | zero => simp
  | succ k ih =>
    have ih := ih (by omega)
    rw [Function.iterate_succ_apply']
    have hk64 : k < 64 := by omega
    have htop : rowMax ((strike e)^[k] v) = v (p ⟨k, hk64⟩) := by
      have hval : ((strike e)^[k] v) (p ⟨k, hk64⟩) = v (p ⟨k, hk64⟩) := by rw [ih]; simp
      rw [← hval]
      refine rowMax_eq _ _ fun i => ?_
      obtain ⟨j, rfl⟩ := h.onto i
      rw [hval, ih]
      split
      · exact (he _).le
      · next hj =>
        rcases (Nat.le_of_not_lt hj).lt_or_eq with hlt | heq
        · exact (h.lt ⟨k, hk64⟩ j (by show k < 8; omega) hlt).le
        · rw [show j = ⟨k, hk64⟩ from Fin.ext heq.symm]
    unfold strike
    change (if ((strike e)^[k] v) (p j) = rowMax ((strike e)^[k] v) then e else ((strike e)^[k] v) (p j)) = _
    rw [htop, ih]
    by_cases hj : j.val < k
    · rw [if_pos hj, if_pos (by omega : j.val < k + 1), ite_self]
    · rw [if_neg hj]
      by_cases hjk : j.val = k
      · rw [show j = ⟨k, hk64⟩ from Fin.ext hjk]; simp
      · have hlt := h.lt ⟨k, hk64⟩ j (by show k < 8; omega) (by show k < j.val; omega)
        rw [if_neg hlt.ne, if_neg (by omega)]

/-- What eight rounds select: an entry among the first eight listed is kept, every other becomes zero. -/
theorem Ranks.selected (h : Ranks v p) (he : ∀ i, e < v i) (j : Fin 64) :
    (if ((strike e)^[8] v) (p j) = e then v (p j) else 0) = if j.val < 8 then v (p j) else 0 := by
  rw [h.strike_iterate he 8 le_rfl j]
  by_cases hj : j.val < 8
  · rw [if_pos hj, if_pos rfl, if_pos hj]
  · rw [if_neg hj, if_neg (he _).ne', if_neg hj]

end Cert.Knockout

end
-- ==== Proof.Ranking.lean ====
/-
  The stable sort of a row of scores, greatest first, and what the host's top-k reads from it.
-/
module

public import proofs.«01_k».proof.Proof.Knockout
public import Idealize.ShloMosaic.Lib.SortFacts
public import Idealize.ShloMosaic.Lib.Pointwise

@[expose] public section

noncomputable section

open Idealize.ShloMosaic

namespace Cert.Knockout

/-- Whether one score sorts strictly before another: it is greater. -/
def before (v : Fin 64 → EReal) (k k' : Fin 64) : Bool := Ideal.cmp .ogt (v k) (v k') == 1#1

/-- One place comes before another exactly when its value is greater. -/
theorem before_iff (v : Fin 64 → EReal) (k k' : Fin 64) : before v k k' = true ↔ v k' < v k := by
  unfold before Ideal.cmp
  by_cases h : v k' < v k <;> simp [h]

/-- One place does not come before another exactly when its value is at most the other's. -/
theorem before_eq_false_iff (v : Fin 64 → EReal) (k k' : Fin 64) : before v k k' = false ↔ v k ≤ v k' := by
  rw [← not_lt, ← before_iff, Bool.not_eq_true]

/-- The places of a row from the greatest score down, equal scores in the order of their places. -/
def order (v : Fin 64 → EReal) : Fin 64 → Fin 64 := sortedFrom (before v)

/-- Every place has a rank. -/
theorem order_surjective (v : Fin 64 → EReal) : Function.Surjective (order v) := sortedFrom_surjective _

/-- No place has two ranks. -/
theorem order_injective (v : Fin 64 → EReal) : Function.Injective (order v) := sortedFrom_injective _

/-- Later scores in the order are no greater. -/
theorem order_descending (v : Fin 64 → EReal) (i j : Fin 64) (hij : i < j) : v (order v j) ≤ v (order v i) :=
  (before_eq_false_iff v _ _).1 (sortedFrom_noInversion (before v) (before v)
    (fun a b h => (before_eq_false_iff v b a).2 ((before_iff v a b).1 h).le) (fun _ _ h => h)
    (fun a b c hab hbc => (before_eq_false_iff v a c).2
      (((before_eq_false_iff v a b).1 hab).trans ((before_eq_false_iff v b c).1 hbc))) i j hij)

/-- The stable order ranks the row as soon as its first nine scores strictly decrease. -/
theorem order_ranks (v : Fin 64 → EReal)
    (h : ∀ i j : Fin 64, i.val < 8 → j.val = i.val + 1 → v (order v j) < v (order v i)) : Ranks v (order v) :=
  ⟨order_surjective v, order_descending v, h⟩

/-- An index of row `r` with its column replaced. -/
theorem along_column (j : (⟨2, ![32768, 64]⟩ : Shape).Idx) (k : Fin 64) : j.along (1 : Fin 2) k = ix2 (j 0) k := by
  funext a
  match a with
  | ⟨0, _⟩ => rfl
  | ⟨1, _⟩ => rfl

/-- The host's sort of each row of `x` by decreasing value, a second array carried along: both are read at the order's
    places. -/
theorem sort_rows {β : Type} (x : FVec Ideal ⟨2, ![32768, 64]⟩ .f32) (y : (⟨2, ![32768, 64]⟩ : Shape).Idx → β) :
    Host.sort2 ⟨2, ![32768, 64]⟩ 1 (fun l r => FloatOps.cmpfTotal (F := Ideal) (φ := .f32) .gt l.1 r.1) x y
      = (fun j => x (ix2 (j 0) (order (fun k => x (ix2 (j 0) k)) (j 1))),
         fun j => y (ix2 (j 0) (order (fun k => x (ix2 (j 0) k)) (j 1)))) := by
  unfold Host.sort2
  rw [dif_pos (by decide)]
  have hπ : ∀ j : (⟨2, ![32768, 64]⟩ : Shape).Idx,
      sortedFrom (fun k k' : Fin 64 => FloatOps.cmpfTotal (F := Ideal) (φ := .f32) .gt (x (j.along (1 : Fin 2) k)) (x (j.along (1 : Fin 2) k')) == 1#1)
        = order (fun k => x (ix2 (j 0) k)) := fun j => by
    simp only [along_column]
    rfl
  refine Prod.ext (funext fun j => ?_) (funext fun j => ?_)
  · refine congrArg x ((along_column j _).trans (congrArg (ix2 (j 0)) ?_))
    exact congrFun (hπ j) (j 1)
  · refine congrArg y ((along_column j _).trans (congrArg (ix2 (j 0)) ?_))
    exact congrFun (hπ j) (j 1)

variable (K : ℕ) (hK : K ≤ 64) (x : FVec Ideal ⟨2, ![32768, 64]⟩ .f32)
  (h : (⟨2, ![32768, 64]⟩ : Shape).Slices (fun _ => 0) ⟨2, ![32768, K]⟩) (r : Fin 32768) (a : Fin K)

omit x in
/-- A slice from the array's corner, read at an index. -/
theorem corner_apply {β : Type} (y : (⟨2, ![32768, 64]⟩ : Shape).Idx → β) :
    extractStridedSlice ⟨2, ![32768, K]⟩ (fun _ => 0) y h (ix2 r a) = y (ix2 r ⟨a.val, a.isLt.trans_le hK⟩) := by
  refine congrArg y (funext fun b => ?_)
  match b with
  | ⟨0, _⟩ => exact Fin.ext (Nat.zero_add _)
  | ⟨1, _⟩ => exact Fin.ext (Nat.zero_add _)

/-- The first `K` values of the host's top-k of each row are the scores at the first `K` places in the order. -/
theorem topK_values :
    (Host.topK ⟨2, ![32768, K]⟩ 1 (FloatOps.cmpfTotal (F := Ideal) (φ := .f32) .gt) x h).1 (ix2 r a)
      = x (ix2 r (order (fun k => x (ix2 r k)) ⟨a.val, a.isLt.trans_le hK⟩)) := by
  unfold Host.topK
  dsimp only
  rw [corner_apply K hK h r a, sort_rows]
  rfl

/-- The first `K` indices are those places, as words. -/
theorem topK_indices :
    (Host.topK ⟨2, ![32768, K]⟩ 1 (FloatOps.cmpfTotal (F := Ideal) (φ := .f32) .gt) x h).2 (ix2 r a)
      = BitVec.ofNat 32 (order (fun k => x (ix2 r k)) ⟨a.val, a.isLt.trans_le hK⟩).val := by
  unfold Host.topK
  dsimp only
  rw [corner_apply K hK h r a, sort_rows]
  rfl

end Cert.Knockout

end
-- ==== Proof.Formula.lean ====
/-
  The problem's mathematics over the extended reals: the scores of a token for the experts, and the routing weights that
  keep the eight greatest scores of each token.
-/
module

public import proofs.«01_k».proof.Proof.Ranking

@[expose] public section

noncomputable section

open Idealize.ShloMosaic

namespace Cert.Routing

/-- The score of token `r` for expert `j`: the sigmoid of a two-layer perceptron with a rectifier between its layers. -/
def score (x : (⟨2, ![32768, 768]⟩ : Shape).Idx → EReal) (w1 : (⟨2, ![768, 384]⟩ : Shape).Idx → EReal)
    (b1 : (⟨1, ![384]⟩ : Shape).Idx → EReal) (w2 : (⟨2, ![384, 64]⟩ : Shape).Idx → EReal)
    (b2 : (⟨1, ![64]⟩ : Shape).Idx → EReal) (r : Fin 32768) (j : Fin 64) : EReal :=
  Ideal.logistic ((∑ l : Fin 384, max ((∑ d : Fin 768, x (ix2 r d) * w1 (ix2 d l)) + b1 (ix1 l)) 0 * w2 (ix2 l j)) + b2 (ix1 j))

/-- A score is never negative. -/
theorem logistic_nonneg (x : EReal) : 0 ≤ Ideal.logistic x := by
  induction x using EReal.rec with
  | bot => rw [Ideal.logistic_bot]
  | top => rw [Ideal.logistic_top]; exact zero_le_one
  | coe r =>
    rw [Ideal.logistic_coe]
    exact EReal.coe_nonneg.2 (inv_nonneg.2 (add_nonneg zero_le_one (Real.exp_pos _).le))

/-- The routing weight of a token for the expert `j`, of the token's scores `v`: the score if `j` is among the first eight
    places in the order, zero otherwise. -/
def weight (v : Fin 64 → EReal) (j : Fin 64) : EReal := if ∃ a : Fin 64, a.val < 8 ∧ Knockout.order v a = j then v j else 0

/-- At a place of the order the weight is decided by the place's rank. -/
theorem weight_order (v : Fin 64 → EReal) (a : Fin 64) :
    weight v (Knockout.order v a) = if a.val < 8 then v (Knockout.order v a) else 0 := by
  unfold weight
  refine if_congr ⟨fun ⟨b, hb, e⟩ => ?_, fun h => ⟨a, h, rfl⟩⟩ rfl rfl
  rwa [← Knockout.order_injective v e]

end Cert.Routing

end
-- ==== Proof.Scores.lean ====
/-
  The scores of the kernel: over the extended reals the body computes the formula of the scores, block by block.
-/
module

public import proofs.«01_k».proof.Proof.Run
public import proofs.«01_k».proof.Proof.Formula
public import Idealize.ShloMosaic.Lib.Pointwise
public import Idealize.ShloMosaic.Lib.Pointwise.IndexBridge
public import Idealize.ShloMosaic.Lib.Pipeline.ValueKit.Point

@[expose] public section

set_option maxRecDepth 16384

noncomputable section

open Idealize.ShloMosaic

namespace Cert.KernelIdeal.Top

open Idealize.ShloMosaic.TcCoe
open Cert.KernelIdeal.Gen

variable (m : (ℓ : Loc nD τ sig) → Buf (Elt Ideal) ℓ)

/-- The scores of the whole array, of the arguments in memory. -/
def scores (c : Dev nD) (r : Fin 32768) (j : Fin 64) : EReal :=
  Routing.score (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) r j

/-- At point `t < 16` the token block is block `t`. -/
theorem index_tokens : ∀ t : Fin cfg0.N, t.val < 16 → win0_0.index t = ![t.val, 0] :=
  (by decide +kernel : ∀ t : Fin grid0.N, t.val < 16 → win0_0.index t = ![t.val, 0])
/-- Input window 1 is the whole of its array at every point. -/
theorem index_1 : ∀ t : Fin cfg0.N, win0_1.index t = ![0, 0] :=
  (by decide +kernel : ∀ t : Fin grid0.N, win0_1.index t = ![0, 0])
/-- Input window 2 is the whole of its array at every point. -/
theorem index_2 : ∀ t : Fin cfg0.N, win0_2.index t = ![0, 0] :=
  (by decide +kernel : ∀ t : Fin grid0.N, win0_2.index t = ![0, 0])
/-- Input window 3 is the whole of its array at every point. -/
theorem index_3 : ∀ t : Fin cfg0.N, win0_3.index t = ![0, 0] :=
  (by decide +kernel : ∀ t : Fin grid0.N, win0_3.index t = ![0, 0])
/-- Input window 4 is the whole of its array at every point. -/
theorem index_4 : ∀ t : Fin cfg0.N, win0_4.index t = ![0, 0] :=
  (by decide +kernel : ∀ t : Fin grid0.N, win0_4.index t = ![0, 0])

/-- The body's scores of block `u` are the whole array's at the block's rows. -/
theorem blockScores_row (c : Dev nD) (u : Fin cfg0.N) (hu : u.val < 16) (r : Fin 2048) (j : Fin 64) :
    (blockScores (F := Ideal) m c u (ix2 r j) : EReal) = scores m c (rowAt u hu r) j := by
  unfold blockScores scores Routing.score
  pointwise [k0_pay2]
  blk_point [iblk, V, index_tokens u hu, index_1 u, index_2 u, index_3 u, index_4 u, rowAt]

end Cert.KernelIdeal.Top

end
-- ==== Proof.Selection.lean ====
/-
  What the body selects from a block of scores, read row by row over the extended reals: eight rounds of striking out the
  greatest entry of the row, then the struck entries' scores and zero elsewhere.
-/
module

public import proofs.«01_k».proof.Proof.Body
public import proofs.«01_k».proof.Proof.Knockout
public import Idealize.ShloMosaic.Lib.Pointwise

@[expose] public section

set_option maxRecDepth 16384

noncomputable section

namespace Cert.KernelIdeal.Top

open Idealize.ShloMosaic Idealize.ShloMosaic.TcCoe
open Cert.KernelIdeal.Gen

/-! ## One round on a block -/

section Round

variable {F : FTy → Type} [FloatOps F]

/-- The value that marks a struck entry. -/
def mark : F .f32 := Scalar.ofBits .f32 0xBF800000#32

/-- One round on a block of rows: in each row, every entry equal to the greatest is marked. -/
def strikeRows (w : FVec F S2048x64 .f32) : FVec F S2048x64 .f32 :=
  select (cmpf .oeq w (broadcastTo S2048x64 (shapeCast S2048x1
    (multiReduction .maximumf [1] S2048 w 0xFF800000#32 reduces_S2048x64_S2048 (.inl rfl) rfl) shapeCasts_S2048_S2048x1)
    broadcasts_S2048x1_S2048x64)) (broadcast S2048x64 mark) w

/-- The selection is eight rounds, then the scores at the marked entries and zero elsewhere. -/
theorem selected_eq (s : Vec F S2048x64 .f32) :
    selected s = select (cmpf .oeq (strikeRows^[8] s) (broadcast S2048x64 mark)) s
      (broadcast S2048x64 (Scalar.ofBits .f32 0x00000000#32)) := rfl

end Round

/-! ## Over the extended reals, a row at a time -/

/-- The mark as an extended real. -/
def markValue : EReal := mark (F := Ideal)

/-- Minus one, the mark, is negative. -/
theorem mark_neg : markValue < 0 := by
  show Ideal.ofBits .f32 0xBF800000#32 < 0
  rw [show Ideal.ofBits .f32 0xBF800000#32 = ((-(1 : ℝ) : ℝ) : EReal) by
    simp [Ideal.ofBits, Ideal.ieee, -EReal.coe_mul, -EReal.coe_neg]; norm_num]
  exact_mod_cast (by norm_num : (-(1 : ℝ)) < 0)

/-- Minus infinity, from which the greatest entry is sought. -/
theorem ofBits_negative_infinity : Ideal.ofBits .f32 0xFF800000#32 = ⊥ := by
  simp [Ideal.ofBits, Ideal.ieee]

/-- A round on the block is a round on each row. -/
theorem strikeRows_row (w : FVec Ideal S2048x64 .f32) (r : Fin 2048) (j : Fin 64) :
    strikeRows w (ix2 r j) = Knockout.strike markValue (fun k => w (ix2 r k)) j := by
  unfold strikeRows
  pointwise
  rw [ofBits_negative_infinity]
  rfl

/-- So are eight rounds. -/
theorem iterate_row (s : FVec Ideal S2048x64 .f32) (n : ℕ) (r : Fin 2048) (j : Fin 64) :
    (strikeRows^[n] s) (ix2 r j) = ((Knockout.strike markValue)^[n] fun k => s (ix2 r k)) j := by
  induction n generalizing j with
  | zero => rfl
  | succ n ih =>
    rw [Function.iterate_succ_apply', Function.iterate_succ_apply', strikeRows_row]
    exact congrArg (fun w => Knockout.strike markValue w j) (funext ih)

/-- The selection from a row whose scores are not negative and are ranked by `p`, the first nine strictly: the scores of
    the first eight places, zero elsewhere. -/
theorem selected_row (s : FVec Ideal S2048x64 .f32) (r : Fin 2048) (p : Fin 64 → Fin 64)
    (hp : Knockout.Ranks (fun k => s (ix2 r k)) p) (h0 : ∀ k, (0 : EReal) ≤ s (ix2 r k)) (j : Fin 64) :
    (selected (F := Ideal) s (ix2 r (p j)) : EReal) = if j.val < 8 then s (ix2 r (p j)) else 0 := by
  rw [selected_eq]
  pointwise
  rw [iterate_row]
  exact hp.selected (fun k => mark_neg.trans_le (h0 k)) j

end Cert.KernelIdeal.Top

end
-- ==== Proof.Equation.lean ====
/-
  The kernel's result: on rows whose first nine scores strictly decrease, the routing weight of each token's scores.
-/
module

public import proofs.«01_k».proof.Proof.Scores
public import proofs.«01_k».proof.Proof.Selection

@[expose] public section

set_option maxRecDepth 16384

noncomputable section

namespace Cert.KernelIdeal.Top

open Idealize.ShloMosaic Idealize.ShloMosaic.TcCoe Idealize.SL.Sem
open Cert.KernelIdeal.Gen

variable (m : (ℓ : Loc nD τ sig) → Buf (Elt Ideal) ℓ) (ρ : Dev nD → PrngReg)

/-- The routing weights of the whole array, of the arguments in memory. -/
def weights (c : Dev nD) : S32768x64.Idx → EReal := fun i => Routing.weight (scores m c (i 0)) (i 1)

/-- On a block of ranked rows the body's selection is the routing weights. -/
theorem selected_weights (c : Dev nD) (hr : ∀ r, Knockout.Ranks (scores m c r) (Knockout.order (scores m c r)))
    (u : Fin cfg0.N) (hu : u.val < 16) (r : Fin 2048) (j : Fin 64) :
    (selected (F := Ideal) (blockScores m c u) (ix2 r j) : EReal) = weights m c (ix2 (rowAt u hu r) j) := by
  have hrow : (fun k => (blockScores (F := Ideal) m c u (ix2 r k) : EReal)) = scores m c (rowAt u hu r) :=
    funext fun k => blockScores_row m c u hu r k
  obtain ⟨a, rfl⟩ := (hr (rowAt u hu r)).onto j
  refine (selected_row _ r _ (hrow ▸ hr (rowAt u hu r)) (fun k => ?_) a).trans ?_
  · rw [blockScores_row m c u hu r k]
    exact Routing.logistic_nonneg _
  · rw [blockScores_row m c u hu r]
    exact (Routing.weight_order _ a).symm

/-- Every run from ranked rows ends with the routing weights in the output array. -/
theorem run_weights (hr : ∀ c r, Knockout.Ranks (scores m c r) (Knockout.order (scores m c r))) :
    θ_run defs (onTc (τ := τ) (main (F := Ideal))) ⟨m, fun _ => 0, ρ⟩ (fun r => ∀ c : Dev nD,
      r.2.mem ((c.tc : Thread nD τ).loc main_v2) = weights m c) :=
  run_result m ρ (weights m) fun c u hu r j => by
    rw [← ix2_eq_valueIdx, ← ix2_eq_valueIdx]
    exact selected_weights m c (hr c) u hu r j

end Cert.KernelIdeal.Top

end
-- ==== Proof.RefValue.lean ====
/-
  The reference read element by element: its scores are the formula's, and its result is the routing weight of each token's
  scores.
-/
module

public import proofs.«01_k».proof.Proof.Formula
public import proofs.«01_k».proof.Proof.Gen.ReferenceIdeal.Run
public import Idealize.ShloMosaic.Lib.Routing.OpsPair
public import Idealize.ShloMosaic.Lib.Routing.OpsSet
public import Idealize.ShloMosaic.Lib.Pointwise
public import Idealize.ShloMosaic.Lib.Pointwise.IndexBridge

@[expose] public section

set_option maxRecDepth 16384

noncomputable section

namespace Cert.ReferenceIdeal.Top

open Idealize.ShloMosaic Idealize.ShloMosaic.TcCoe
open Cert.ReferenceIdeal.Gen

/-- The reference's scores, as it computes them from its five arguments. -/
def scoreArray (x : FVec Ideal S32768x768 .f32) (w1 : FVec Ideal S768x384 .f32) (b1 : FVec Ideal S384 .f32)
    (w2 : FVec Ideal S384x64 .f32) (b2 : FVec Ideal S64 .f32) : FVec Ideal S32768x64 .f32 :=
  Host.divf (broadcastInDim S32768x64 ![] bcast_S_S32768x64 (constant S_ .f32 0x3F800000#32))
    (addf (broadcastInDim S32768x64 ![] bcast_S_S32768x64 (constant S_ .f32 0x3F800000#32))
      (Host.exp (Host.negf (addf
        (Host.dotGeneral dot_S32768x384_S384x64_S32768x64_1_0_0_1_n_n none
          (maximumf (addf (Host.dotGeneral dot_S32768x768_S768x384_S32768x384_1_0_0_1_n_n none x w1)
              (broadcastInDim S32768x384 ![0, 1] bcast_S1x384_S32768x384_0_1 (broadcastInDim S1x384 ![1] bcast_S384_S1x384_1 b1)))
            (broadcastInDim S32768x384 ![] bcast_S_S32768x384 (constant S_ .f32 0x00000000#32))) w2)
        (broadcastInDim S32768x64 ![0, 1] bcast_S1x64_S32768x64_0_1 (broadcastInDim S1x64 ![1] bcast_S64_S1x64_1 b2))))))

/-- They are the formula's scores. -/
theorem scoreArray_apply (x : FVec Ideal S32768x768 .f32) (w1 : FVec Ideal S768x384 .f32) (b1 : FVec Ideal S384 .f32)
    (w2 : FVec Ideal S384x64 .f32) (b2 : FVec Ideal S64 .f32) (r : Fin 32768) (j : Fin 64) :
    (scoreArray x w1 b1 w2 b2 (ix2 r j) : EReal) = Routing.score x w1 b1 w2 b2 r j := by
  unfold scoreArray Routing.score Ideal.logistic
  pointwise

/-- The pairs (token, expert) at which the reference scatters ones, from the top-k indices. -/
def places (t : IVec S32768x8 32) : IVec S32768x8x2 32 :=
  concatenate S32768x8x2 2 [⟨S32768x8x1, (broadcastInDim S32768x8x1 ![0, 1] bcast_S32768x8_S32768x8x1_0_1 (broadcastInDim S32768x8 ![0, 1] bcast_S32768x1_S32768x8_0_1 (select (cmpi .slt (broadcastInDim S32768x1 ![0] bcast_S32768_S32768x1_0 (iotaInDim S32768 32 0)) (broadcastInDim S32768x1 ![] bcast_S_S32768x1 (constantI S_ 32 0#32))) (addi (broadcastInDim S32768x1 ![0] bcast_S32768_S32768x1_0 (iotaInDim S32768 32 0)) (broadcastInDim S32768x1 ![] bcast_S_S32768x1 (constantI S_ 32 32768#32))) (broadcastInDim S32768x1 ![0] bcast_S32768_S32768x1_0 (iotaInDim S32768 32 0)))))⟩,
    ⟨S32768x8x1, (broadcastInDim S32768x8x1 ![0, 1] bcast_S32768x8_S32768x8x1_0_1 (select (cmpi .slt t (broadcastInDim S32768x8 ![] bcast_S_S32768x8 (constantI S_ 32 0#32))) (addi t (broadcastInDim S32768x8 ![] bcast_S_S32768x8 (constantI S_ 32 64#32))) t))⟩] concatenates_S32768x8x1_S32768x8x1_S32768x8x2_d2

/-- A small word, wrapped as a negative index would be, stands for itself. -/
theorem wrapped_toInt (n : ℕ) (hn : n < 2 ^ 31) (k : BitVec 32) :
    (Scalar.select (IntOp.cmpi .slt (BitVec.ofNat 32 n) 0#32) (IntOp.addi (BitVec.ofNat 32 n) k) (BitVec.ofNat 32 n)).toInt = n := by
  rw [Routing.wrap_of_lt _ _ (by rw [BitVec.toNat_ofNat, Nat.mod_eq_of_lt (by omega)]; exact hn)]
  exact StableHlo.Predicate.toInt_ofNat_small _ hn

/-- The first word of the pair at `(r, a)` is the token `r`. -/
theorem places_token (t : IVec S32768x8 32) (r : Fin 32768) (a : Fin 8) :
    (places t (ix3 r a 0)).toInt = r.val := by
  unfold places
  pointwise
  exact wrapped_toInt r.val (by omega) _

/-- The second word of the pair at `(r, a)` is the top-k index there. -/
theorem places_expert (t : IVec S32768x8 32) (r : Fin 32768) (a : Fin 8) (e : Fin 64) (h : t (ix2 r a) = BitVec.ofNat 32 e.val) :
    (places t (ix3 r a 1)).toInt = e.val := by
  unfold places
  pointwise
  rw [h]
  exact wrapped_toInt e.val (by omega) _

/-- The mask: ones scattered over zeros. -/
def mask (t : IVec S32768x8 32) : FVec Ideal S32768x64 .f32 :=
  Host.scatter scatter_S32768x64_S32768x8x2_S32768x8_n_01_01_2 (fun _ b => b)
    (broadcastInDim S32768x64 ![] bcast_S_S32768x64 (constant S_ .f32 0x00000000#32)) (places t)
    (broadcastInDim S32768x8 ![] bcast_S_S32768x8 (constant S_ .f32 0x3F800000#32))

/-- The mask at a token and an expert: one if some top-k index of the token is the expert, else zero. -/
theorem mask_apply (t : IVec S32768x8 32) (P : Fin 32768 → Fin 8 → Fin 64)
    (ht : ∀ r a, t (ix2 r a) = BitVec.ofNat 32 (P r a).val) (r : Fin 32768) (j : Fin 64) :
    (mask t (ix2 r j) : EReal) = if ∃ a, P r a = j then 1 else 0 := by
  have hland : ∀ (r' : Fin 32768) (a : Fin 8), scatter_S32768x64_S32768x8x2_S32768x8_n_01_01_2.resultIdx? (ix2 r' a) (places t)
      = some (ix2 r j) ↔ r' = r ∧ P r' a = j := fun r' a => by
    have h := Routing.scatter_lands2 scatter_S32768x64_S32768x8x2_S32768x8_n_01_01_2 rfl rfl rfl (places t) r' a r j
    simp only [← ix2_eq_valueIdx, ← ix3_eq_valueIdx] at h
    rw [h, places_token, places_expert t r' a _ (ht r' a), Nat.cast_inj, Nat.cast_inj, Fin.val_inj, Fin.val_inj]
  unfold mask
  by_cases hex : ∃ a, P r a = j
  · obtain ⟨a, ha⟩ := hex
    rw [if_pos ⟨a, ha⟩]
    refine Routing.scatter_set_hit _ _ _ _ _ 1 (fun k _ => ?_) (ix2 r a) ((hland r a).2 ⟨rfl, ha⟩)
    pointwise
  · rw [if_neg hex, Routing.scatter_set_miss _ _ _ _ _ fun k hk => ?_]
    · pointwise
    · rw [eq_ix2 k] at hk
      have := (hland (k 0) (k 1)).1 hk
      exact hex ⟨k 1, this.1 ▸ this.2⟩

/-- The reference's result from its scores. -/
theorem result_eq (m : (ℓ : Loc nD τ sig) → Buf (Elt Ideal) ℓ) (c : Dev nD) (S : FVec Ideal S32768x64 .f32)
    (hS : S = scoreArray (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    Value.res_out0 (F := Ideal) m c
      = mulf S (mask (Host.topK S32768x8 1 (FloatOps.cmpfTotal .gt) S sliceFits_S32768x64_S32768x8).2) := by
  subst hS; rfl

/-- The reference's result is the routing weight of the token's scores. -/
theorem result_apply (m : (ℓ : Loc nD τ sig) → Buf (Elt Ideal) ℓ) (c : Dev nD) (r : Fin 32768) (j : Fin 64) :
    (Value.res_out0 (F := Ideal) m c (ix2 r j) : EReal)
      = Routing.weight (Routing.score (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) r) j := by
  rw [result_eq m c _ rfl]
  generalize hS : scoreArray _ _ _ _ _ = S
  have hrow : ∀ r', (fun k => (S (ix2 r' k) : EReal)) = Routing.score (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) r' := fun r' => by
    subst hS; exact funext fun k => scoreArray_apply _ _ _ _ _ r' k
  rw [← hrow r]
  have hmask := mask_apply (Host.topK S32768x8 1 (FloatOps.cmpfTotal .gt) S sliceFits_S32768x64_S32768x8).2
    (fun r a => Knockout.order (fun k => S (ix2 r k)) ⟨a.val, by omega⟩)
    (fun r a => Knockout.topK_indices 8 (by decide) S _ r a) r j
  show (S (ix2 r j) : EReal) * (mask _ (ix2 r j) : EReal) = _
  rw [hmask]
  unfold Routing.weight
  by_cases hex : ∃ a : Fin 8, Knockout.order (fun k => S (ix2 r k)) ⟨a.val, by omega⟩ = j
  · rw [if_pos hex, mul_one]
    obtain ⟨a, ha⟩ := hex
    rw [if_pos ⟨⟨a.val, by omega⟩, a.isLt, ha⟩]
  · rw [if_neg hex, mul_zero, if_neg]
    rintro ⟨a, ha, e⟩
    exact hex ⟨⟨a.val, ha⟩, e⟩

end Cert.ReferenceIdeal.Top

end
-- ==== Proof.Twin.lean ====
/-
  The kernel's own frame. Its program is, word for word, the kernel that is read over the extended reals, and the frame there
  is proved for every reading of the floats. So the two programs are shown equal and the frame is carried over.
-/
module

public import proofs.«01_k».proof.Defs
public import proofs.«01_k».proof.Proof.Run
public import proofs.«01_k».proof.Proof.Gen.Kernel

@[expose] public section

set_option maxRecDepth 16384

namespace Cert.Kernel.Top

open Idealize.ShloMosaic Idealize.SL.Sem

variable {F : FTy → Type} [FloatOps F]

/-- The two tables name the same bodies. -/
theorem table_eq : Cert.Kernel.defs₀ (F := F) = Cert.KernelIdeal.defs₀ (F := F) := by
  unfold Cert.Kernel.defs₀ Cert.KernelIdeal.defs₀
  congr 1
  funext l a
  match l, a with
  | ⟨0, _⟩, (_, _) => rfl

/-- The two programs have the same definitions. -/
theorem defs_eq : Cert.Kernel.defs (F := F) = Cert.KernelIdeal.defs (F := F) :=
  congrArg (Pipeline.defs Cert.KernelIdeal.pcfgs) table_eq

/-- The kernel runs, changes no argument, and ends with every counter at zero. -/
theorem run_frame : Cert.quiescent_Kernel := fun m ρ _ => by
  rw [defs_eq]
  exact Cert.KernelIdeal.Top.run_frame (F := Bits) m ρ

end Cert.Kernel.Top
-- ==== Proof.Untied.lean ====
/-
  The precondition read as mathematics: in each token's row the first nine scores in decreasing order strictly decrease.
-/
module

public import proofs.«01_k».proof.Proof.RefValue
public import proofs.«01_k».proof.Proof.Gen.Pre_untied_top

@[expose] public section

set_option maxRecDepth 16384

noncomputable section

namespace Cert.Pre_untied_top.Top

open Idealize.ShloMosaic
open Cert.Pre_untied_top.Gen

variable (x : FVec Ideal S32768x768 .f32) (w1 : FVec Ideal S768x384 .f32) (b1 : FVec Ideal S384 .f32)
  (w2 : FVec Ideal S384x64 .f32) (b2 : FVec Ideal S64 .f32)

/-- The predicate compares each of the first eight of the nine greatest scores of a row with the next; its scores are the
    reference's. -/
theorem fn_eq (S : FVec Ideal S32768x64 .f32) (hS : S = ReferenceIdeal.Top.scoreArray x w1 b1 w2 b2) (V : FVec Ideal S32768x9 .f32)
    (hV : V = (Host.topK S32768x9 1 (FloatOps.cmpfTotal .gt) S Facts.sliceFits_S32768x64_S32768x9).1) :
    fn (F := Ideal) x w1 b1 w2 b2
      = cmpf .ogt (extractStridedSlice S32768x8 ![0, 0] V Facts.slices_S32768x9_S32768x8_0_0)
        (extractStridedSlice S32768x8 ![0, 1] V Facts.slices_S32768x9_S32768x8_0_1) := by
  subst hV; subst hS; rfl

/-- Under the precondition each row's stable order ranks the row's scores, the first nine strictly. -/
theorem ranks (h : fn (F := Ideal) x w1 b1 w2 b2 = fun _ => 1#1) (r : Fin 32768) :
    Knockout.Ranks (Routing.score x w1 b1 w2 b2 r) (Knockout.order (Routing.score x w1 b1 w2 b2 r)) := by
  refine Knockout.order_ranks _ fun i j hi hj => ?_
  have h := congrFun h (ix2 r ⟨i.val, hi⟩)
  rw [fn_eq x w1 b1 w2 b2 _ rfl _ rfl] at h
  generalize hS : ReferenceIdeal.Top.scoreArray x w1 b1 w2 b2 = S at h
  have hrow : (fun k => (S (ix2 r k) : EReal)) = Routing.score x w1 b1 w2 b2 r := by
    subst hS; exact funext fun k => ReferenceIdeal.Top.scoreArray_apply _ _ _ _ _ r k
  have hval := Knockout.topK_values 9 (by decide) S Facts.sliceFits_S32768x64_S32768x9 r
  generalize (Host.topK S32768x9 1 (FloatOps.cmpfTotal .gt) S Facts.sliceFits_S32768x64_S32768x9).1 = V at h hval
  pointwise at h
  have hlt : V (ix2 r ⟨1 + i.val, by omega⟩) < V (ix2 r ⟨i.val, by omega⟩) := by
    by_contra hn
    rw [decide_eq_false hn] at h
    exact absurd h (by decide)
  rw [hval, hval] at hlt
  rw [← hrow, show j = ⟨1 + i.val, by omega⟩ from Fin.ext (by show j.val = 1 + i.val; omega)]
  exact hlt

end Cert.Pre_untied_top.Top

end
-- ==== Proof.lean ====
/-
  The proof of the claim. The kernel routes each token to its eight best experts: it scores the token for every expert and
  keeps the eight greatest scores, zero elsewhere. It finds them by striking out the greatest entry eight times; the reference
  scatters ones at the indices of a stable top-k and multiplies. The two agree on rows whose first nine scores in decreasing
  order strictly decrease, which is the precondition.
-/
module

public import proofs.«01_k».proof.Defs
public import proofs.«01_k».proof.Proof.Equation
public import proofs.«01_k».proof.Proof.RefValue
public import proofs.«01_k».proof.Proof.Twin
public import proofs.«01_k».proof.Proof.Untied
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_untied_top
public import Idealize.ShloMosaic.Adequacy
public import Idealize.ShloMosaic.Init

@[expose] public section

set_option maxRecDepth 16384

noncomputable section

namespace Cert.Proof

open Idealize.ShloMosaic Idealize.SL.Sem

/-- The kernel over the extended reals runs, changes no argument, and ends with every counter at zero. -/
theorem frame_ideal : Cert.quiescent_KernelIdeal := fun m ρ _ => Cert.KernelIdeal.Top.run_frame m ρ

/-- And so, in particular, under the precondition. -/
theorem frame_ideal_untied : Cert.quiescent_KernelIdeal_pre_untied_top := fun m ρ _ => Cert.KernelIdeal.Top.run_frame m ρ

/-- The reference runs and changes no argument; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And so, in particular, under the precondition. -/
theorem frame_reference_untied : Cert.quiescent_ReferenceIdeal_pre_untied_top := fun m ρ _ => frame_reference m ρ trivial

/-- Under the precondition both programs end with the routing weights. -/
theorem algebraic : Cert.algebraic_KernelIdeal_ReferenceIdeal_pre_untied_top := by
  intro m ρ m' ρ' hpre hargs
  have hr : ∀ c r, Knockout.Ranks (KernelIdeal.Top.scores m c r) (Knockout.order (KernelIdeal.Top.scores m c r)) :=
    fun c r => Pre_untied_top.Top.ranks _ _ _ _ _ (hpre c) r
  refine ⟨KernelIdeal.Top.weights m, ?_, ?_⟩
  · exact (θ_run KernelIdeal.defs _ _).mono (fun _ h c => ⟨h.1 c, h.2.1 c⟩)
      (θ_run_and (KernelIdeal.Top.run_weights m ρ hr) (KernelIdeal.Top.run_frame m ρ))
  · refine (θ_run ReferenceIdeal.defs _ _).mono (fun _ h c => ⟨(h c).1.trans ?_, (h c).2⟩)
      (ReferenceIdeal.Value.run (F := Ideal) m' ρ')
    funext i
    obtain ⟨r, j, rfl⟩ : ∃ (r : Fin 32768) (j : Fin 64), i = ix2 r j := ⟨i 0, i 1, eq_ix2 i⟩
    refine (ReferenceIdeal.Top.result_apply m' c r j).trans ?_
    obtain ⟨h0, h1, h2, h3, h4⟩ := hargs c
    rw [h0, h1, h2, h3, h4]
    rfl

/-- Every claim of the certificate. -/
theorem claim : Cert.Claim :=
  ⟨Cert.Kernel.Gen.facts, Cert.KernelIdeal.Gen.facts, Cert.ReferenceIdeal.Gen.facts, Cert.Pre_untied_top.Gen.facts,
    Cert.Kernel.Top.run_frame, frame_ideal, frame_ideal_untied, frame_reference, frame_reference_untied, trivial, algebraic⟩

end Cert.Proof

end
